-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative [hPre_nonnegative : Cert.Pre_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative [hPre_nonnegative : Cert.Pre_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nonnegative [hKernelIdeal : Cert.KernelIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nonnegative [hReferenceIdeal : Cert.ReferenceIdeal.Facts] [hPre_nonnegative : Cert.Pre_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nonnegative [hKernelIdeal : Cert.KernelIdeal.Facts] [hReferenceIdeal : Cert.ReferenceIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nonnegative : Cert.Pre_nonnegative.Facts),
    quiescent_Kernel (hKernel := hKernel)
    ∧ quiescent_KernelIdeal (hKernelIdeal := hKernelIdeal)
    ∧ quiescent_KernelIdeal_pre_nonnegative (hKernelIdeal := hKernelIdeal) (hPre_nonnegative := hPre_nonnegative)
    ∧ quiescent_ReferenceIdeal (hReferenceIdeal := hReferenceIdeal)
    ∧ quiescent_ReferenceIdeal_pre_nonnegative (hReferenceIdeal := hReferenceIdeal) (hPre_nonnegative := hPre_nonnegative)
    ∧ preserves_Kernel_KernelIdeal
    ∧ algebraic_KernelIdeal_ReferenceIdeal_pre_nonnegative (hKernelIdeal := hKernelIdeal) (hReferenceIdeal := hReferenceIdeal) (hPre_nonnegative := hPre_nonnegative)
-- ==== Pre_nonnegative.lean ====
abbrev S32768x512 : Shape := ⟨2, ![32768, 512]⟩
abbrev S32768 : Shape := ⟨1, ![32768]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : FVec F S32768x512 .f32) (main_arg1 : IVec S32768 32) : IVec S_ 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 1 := constantI S_ 1 1#1
  let main_v2 : IVec S_ 1 := (fun x v => Host.reduce IntOp.andi x v reducesTo_S32768_S_d0 h_S_) main_v1 main_c_0
  main_v2
-- ==== Kernel.lean ====
abbrev S32768x512 : Shape := ⟨2, ![32768, 512]⟩
abbrev S32768 : Shape := ⟨1, ![32768]⟩
abbrev S1x32768 : Shape := ⟨2, ![1, 32768]⟩
abbrev S3x512 : Shape := ⟨2, ![3, 512]⟩
abbrev S1x2048 : Shape := ⟨2, ![1, 2048]⟩
abbrev S2048x512 : Shape := ⟨2, ![2048, 512]⟩
abbrev S8x512 : Shape := ⟨2, ![8, 512]⟩
abbrev S8x128 : Shape := ⟨2, ![8, 128]⟩
abbrev S2048 : Shape := ⟨1, ![2048]⟩
abbrev S8x2048 : Shape := ⟨2, ![8, 2048]⟩
abbrev S8x1 : Shape := ⟨2, ![8, 1]⟩
abbrev S8 : Shape := ⟨1, ![8]⟩
abbrev S3x1 : Shape := ⟨2, ![3, 1]⟩

abbrev nBuf : Space → Nat
  | .hbm => 4
  | .vmem => 7
  | .smem => 0
  | _ => 0

abbrev bufTy : (tb : Table) → Fin (tcTables nBuf tb) → BufTy
  | .hbm, ⟨0, _⟩ => ⟨S32768x512, .f32⟩
  | .hbm, ⟨1, _⟩ => ⟨S32768, .i32⟩
  | .hbm, ⟨2, _⟩ => ⟨S1x32768, .i32⟩
  | .hbm, ⟨3, _⟩ => ⟨S3x512, .f32⟩
  | .local _ .vmem, ⟨0, _⟩ => ⟨S1x2048, .i32⟩
  | .local _ .vmem, ⟨1, _⟩ => ⟨S1x2048, .i32⟩
  | .local _ .vmem, ⟨2, _⟩ => ⟨S2048x512, .f32⟩
  | .local _ .vmem, ⟨3, _⟩ => ⟨S2048x512, .f32⟩
  | .local _ .vmem, ⟨4, _⟩ => ⟨S3x512, .f32⟩
  | .local _ .vmem, ⟨5, _⟩ => ⟨S8x512, .f32⟩
  | .local _ .vmem, ⟨6, _⟩ => ⟨S8x128, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v26 : BitVec 1 := Scalar.cmpi .eq arg0 c15_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S32768x512 : Shape := ⟨2, ![32768, 512]⟩
abbrev S32768 : Shape := ⟨1, ![32768]⟩
abbrev S_ : Shape := ⟨0, ![]⟩
abbrev S3x512 : Shape := ⟨2, ![3, 512]⟩
abbrev S32768x1 : Shape := ⟨2, ![32768, 1]⟩
abbrev S3 : Shape := ⟨1, ![3]⟩
abbrev S3x1 : Shape := ⟨2, ![3, 1]⟩

abbrev nBuf : Space → Nat
  | .hbm => 34
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768, .i32⟩
  | .hbm, ⟨2, _⟩ => ⟨S_, .f32⟩
  | .hbm, ⟨3, _⟩ => ⟨S3x512, .f32⟩
  | .hbm, ⟨4, _⟩ => ⟨S32768x1, .i32⟩
  | .hbm, ⟨5, _⟩ => ⟨S3x512, .f32⟩
  | .hbm, ⟨6, _⟩ => ⟨S_, .i32⟩
  | .hbm, ⟨7, _⟩ => ⟨S3, .i32⟩
  | .hbm, ⟨8, _⟩ => ⟨S_, .i32⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S_, .i32⟩
  | .hbm, ⟨13, _⟩ => ⟨S32768, .i32⟩
  | .hbm, ⟨14, _⟩ => ⟨S32768, .i1⟩
  | .hbm, ⟨15, _⟩ => ⟨S_, .i32⟩
  | .hbm, ⟨16, _⟩ => ⟨S32768, .i32⟩
  | .hbm, ⟨17, _⟩ => ⟨S32768, .i32⟩
  | .hbm, ⟨18, _⟩ => ⟨S32768, .i32⟩
  | .hbm, ⟨19, _⟩ => ⟨S32768x1, .i32⟩
  | .hbm, ⟨20, _⟩ => ⟨S_, .i32⟩
  | .hbm, ⟨21, _⟩ => ⟨S32768, .i32⟩
  | .hbm, ⟨22, _⟩ => ⟨S3, .i32⟩
  | .hbm, ⟨23, _⟩ => ⟨S_, .i32⟩
  | .hbm, ⟨24, _⟩ => ⟨S3, .i32⟩
  | .hbm, ⟨25, _⟩ => ⟨S3, .i1⟩
  | .hbm, ⟨26, _⟩ => ⟨S_, .i32⟩
  | .hbm, ⟨27, _⟩ => ⟨S_, .i32⟩
  | .hbm, ⟨28, _⟩ => ⟨S3, .i32⟩
  | .hbm, ⟨29, _⟩ => ⟨S3, .i32⟩
  | .hbm, ⟨30, _⟩ => ⟨S3, .f32⟩
  | .hbm, ⟨31, _⟩ => ⟨S3x1, .f32⟩
  | .hbm, ⟨32, _⟩ => ⟨S3x512, .f32⟩
  | .hbm, ⟨33, _⟩ => ⟨S3x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_c_5 : Ref sig .tc := ⟨.hbm, 26, rfl⟩
abbrev main_call1_v0 : Ref sig .tc := ⟨.hbm, 27, rfl⟩
abbrev main_call1_v1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Proof.Labels.lean ====
/- What the precondition says of the labels. -/
module

public import proofs.«01_k».proof.Pre_nonnegative
public import proofs.«01_k».proof.Proof.Gen.Pre_nonnegative
public import Idealize.ShloMosaic.Lib.ReduceAll
public import Idealize.ShloMosaic.Lib.WordCmp
public import Idealize.ShloMosaic.Lib.Pointwise

@[expose] public section

namespace Cert.Pre_nonnegative.Labels

open Cert.Pre_nonnegative Cert.Pre_nonnegative.Gen Idealize.ShloMosaic

/-- Where the precondition holds, no label is negative. -/
theorem label_nonneg (x : FVec Ideal S32768x512 .f32) (l : IVec S32768 32)
    (h : fn (F := Ideal) x l = fun _ => 1#1) (n : Fin 32768) : 0 ≤ (l (ix1 n)).toInt := by
  have h1 : IntOp.cmpi .sge (l (ix1 n)) 0#32 = 1#1 := Host.reduce_andi_all _ _ _ _ _ (congrFun h (fun a => a.elim0)) (ix1 n)
  rw [WordCmp.cmpi_sge_eq] at h1
  by_contra hn
  rw [decide_eq_false (by simpa using hn)] at h1
  exact absurd h1 (by decide)

end Cert.Pre_nonnegative.Labels
-- ==== Proof.Block.lean ====
/- What the kernel computes of one block of 2048 rows, each stored value read at one element. -/
module

public import proofs.«01_k».proof.Proof.Gen.KernelIdeal.Value
public import Idealize.ShloMosaic.Lib.Pipeline.ValueKit
public import Idealize.ShloMosaic.Lib.Pointwise
public import Idealize.ShloMosaic.Lib.WordCmp

@[expose] public section

noncomputable section

namespace Cert.KernelIdeal.Block

open Cert.KernelIdeal Cert.KernelIdeal.Gen Idealize.ShloMosaic Idealize.ShloMosaic.TcCoe

/-- The indicator of a label: one when the label is the class `r`, else zero. -/
def hot (l : BitVec 32) (r : ℕ) : EReal := if l = BitVec.ofNat 32 r then 1 else 0

/-- The one-hot matrix of a block of labels: row `r`, column `b` tells whether label `b` is `r`. -/
theorem onehot_at (x : Vec Ideal S1x2048 .i32) (r : Fin 8) (b : Fin 2048) :
    k0_pay3 x (ix2 r b) = hot (x (ix2 0 b)) r.val := by
  unfold k0_pay3 hot
  pointwise
  by_cases h : x (ix2 0 b) = BitVec.ofNat 32 r.val
  · have h1 : IntOp.cmpi .eq (x (ix2 0 b)) (BitVec.ofNat 32 r.val) = 1#1 := by
      rw [h]; simp only [IntOp.cmpi, beq_self_eq_true]; rfl
    rw [if_pos h, h1]
    show (((1#32 : BitVec 32).toInt : ℝ) : EReal) = 1
    simp
  · have h1 : IntOp.cmpi .eq (x (ix2 0 b)) (BitVec.ofNat 32 r.val) = 0#1 := by
      simp only [IntOp.cmpi, beq_eq_false_iff_ne.mpr h]; rfl
    rw [if_neg h, h1]
    show (((0#32 : BitVec 32).toInt : ℝ) : EReal) = 0
    simp

/-- One block adds to the sum of class `r` the rows of the block whose label is `r`. -/
theorem sum_at (x : Vec Ideal S1x2048 .i32) (y : Vec Ideal S2048x512 .f32) (s : Vec Ideal S8x512 .f32) (r : Fin 8) (k : Fin 512) :
    k0_pay4 x y s (ix2 r k) = s (ix2 r k) + ∑ b : Fin 2048, hot (x (ix2 0 b)) r.val * y (ix2 b k) := by
  simp only [← onehot_at]
  unfold k0_pay4
  pointwise

/-- One block adds to the count of class `r` the number of its labels equal to `r`. -/
theorem count_at (x : Vec Ideal S1x2048 .i32) (s : Vec Ideal S8x1 .f32) (r : Fin 8) :
    k0_pay5 x s (ix2 r 0) = s (ix2 r 0) + ∑ b : Fin 2048, hot (x (ix2 0 b)) r.val := by
  simp only [← onehot_at]
  unfold k0_pay5
  pointwise

/-- The mean of class `r`: its sum over the greater of its count and one. -/
theorem mean_at (n : Vec Ideal S8x1 .f32) (s : Vec Ideal S3x512 .f32) (r : Fin 3) (k : Fin 512) :
    k0_pay6 n s (ix2 r k) = Ideal.div (s (ix2 r k)) (max (n (ix2 ⟨r.val, by omega⟩ 0)) 1) := by
  unfold k0_pay6
  pointwise

/-- The sums start at zero. -/
theorem sum_zero_at (r : Fin 8) (k : Fin 512) : k0_pay1 (F := Ideal) (ix2 r k) = 0 := by
  unfold k0_pay1
  pointwise

/-- The counts start at zero. -/
theorem count_zero_at (r : Fin 8) (k : Fin 128) : k0_pay2 (F := Ideal) (ix2 r k) = 0 := by
  unfold k0_pay2
  pointwise

end Cert.KernelIdeal.Block

end
-- ==== Proof.Points.lean ====
/- What the two scratch buffers and the result hold after each point of the grid. -/
module

public import proofs.«01_k».proof.Proof.Block
public import Idealize.ShloMosaic.Lib.Pipeline.ReadBack
public import Idealize.ShloMosaic.Lib.WritesUnit

@[expose] public section

noncomputable section

namespace Cert.KernelIdeal.Points

open Cert.KernelIdeal Cert.KernelIdeal.Gen Idealize.ShloMosaic Idealize.ShloMosaic.TcCoe
open Cert.KernelIdeal.Block

variable (m : (ℓ : Loc nD τ sig) → Buf (Elt Ideal) ℓ)

/-- A load of the first column of the counts' buffer is that column. -/
theorem col_at (s : Vec Ideal S8x128 .f32) (r : Fin 8) :
    View.ld s (Rect.unit (s := S8x128) ![0, 0] ![8, 1] inb_S8x128_S8x1_0_0) (ix2 r 0) = s (ix2 r 0) :=
  View.ld_unit_apply_of s _ _ _ _ _ fun a => by
    match a with
    | ⟨0, _⟩ => exact (Nat.zero_add _).symm
    | ⟨1, _⟩ => rfl

/-- A load of the first three rows of the sums' buffer is those rows. -/
theorem top_at (s : Vec Ideal S8x512 .f32) (r : Fin 3) (k : Fin 512) :
    View.ld s (Rect.unit (s := S8x512) ![0, 0] ![3, 512] inb_S8x512_S3x512_0_0) (ix2 r k) = s (ix2 ⟨r.val, by omega⟩ k) :=
  View.ld_unit_apply_of s _ _ _ _ _ fun a => by
    match a with
    | ⟨0, _⟩ => exact (Nat.zero_add _).symm
    | ⟨1, _⟩ => exact (Nat.zero_add _).symm

/-- The counts' buffer after a store of its first column over any contents holds the stored column there. -/
theorem col_stored (f : (View.whole cc0_scratch1).ty.Contents (Elt Ideal)) (w : Vec Ideal S8x1 .f32) (r : Fin 8) :
    (View.whole cc0_scratch1).read (Elt Ideal) ((View.whole cc0_scratch1).writes (Elt Ideal) f
      [⟨Rect.unit (s := S8x128) ![0, 0] ![8, 1] inb_S8x128_S8x1_0_0, w⟩]) (ix2 r (0 : Fin 128)) = w (ix2 r 0) :=
  View.read_writes_cons_unit_of_mem (s := S8x128) (off' := ![0, 0]) _ f inb_S8x128_S8x1_0_0 w [] (ix2 r (0 : Fin 128)) (ix2 r (0 : Fin 1)) rfl
    fun a => by
      match a with
      | ⟨0, _⟩ => exact (Nat.zero_add _).symm
      | ⟨1, _⟩ => rfl

/-- The same where the buffer was filled whole before. -/
theorem col_stored_filled (w : Vec Ideal S8x1 .f32) (L : List (View.Piece (Elt Ideal) S8x128 .f32)) (r : Fin 8) :
    View.canon (Val := Elt Ideal) (e := .f32) ((⟨Rect.unit (s := S8x128) ![0, 0] ![8, 1] inb_S8x128_S8x1_0_0, w⟩ : View.Piece (Elt Ideal) S8x128 .f32) :: L) (ix2 r (0 : Fin 128))
      = w (ix2 r 0) := by
  have h : (Rect.unit (s := S8x128) ![0, 0] ![8, 1] inb_S8x128_S8x1_0_0).emb (ix2 r (0 : Fin 1)) = ix2 r (0 : Fin 128) :=
    funext fun a => Fin.ext (by
      match a with
      | ⟨0, _⟩ => show 0 + 1 * r.val = r.val; omega
      | ⟨1, _⟩ => rfl)
  rw [← h]
  exact View.canon_cons_emb (Rect.unit (s := S8x128) ![0, 0] ![8, 1] inb_S8x128_S8x1_0_0) w L (ix2 r (0 : Fin 1))

/-- The first point leaves in the sums its block's sums. -/
theorem sums_first (c : Dev nD) (t : Fin cfg0.N) (h0 : t.val % 16 = 0) :
    (outsAt0 m c t.val t.isLt).2.1 = k0_pay4 (iblk m c 0 t) (iblk m c 1 t) (k0_pay1 (F := Ideal)) := by
  rw [outsAt0_A m c t h0 (by omega)]
  frame_out

/-- Every later point adds its block's sums to what the point before left. -/
theorem sums_next (c : Dev nD) (t : Fin cfg0.N) (h0 : ¬t.val % 16 = 0) :
    (outsAt0 m c t.val t.isLt).2.1 = k0_pay4 (iblk m c 0 t) (iblk m c 1 t)
      (outsAt0 m c (t.val - 1) (Nat.lt_of_le_of_lt (Nat.sub_le _ _) t.isLt)).2.1 := by
  by_cases h1 : t.val % 16 = 15
  · rw [outsAt0_C m c t h0 h1]
    frame_out
    rw [read_unread_whole]
  · rw [outsAt0_B m c t h0 h1]
    frame_out
    rw [read_unread_whole]

/-- The first point leaves in the counts' first column its block's counts. -/
theorem counts_first (c : Dev nD) (t : Fin cfg0.N) (h0 : t.val % 16 = 0) (r : Fin 8) :
    (outsAt0 m c t.val t.isLt).2.2 (ix2 r 0)
      = k0_pay5 (iblk m c 0 t) (View.ld (k0_pay2 (F := Ideal)) (Rect.unit (s := S8x128) ![0, 0] ![8, 1] inb_S8x128_S8x1_0_0)) (ix2 r 0) := by
  rw [outsAt0_A m c t h0 (by omega)]
  frame_out
  rw [View.readCov_fill _ _ _ _ _ (by decide)]
  exact col_stored_filled _ _ r

/-- Every later point adds its block's counts to the first column the point before left. -/
theorem counts_next (c : Dev nD) (t : Fin cfg0.N) (h0 : ¬t.val % 16 = 0) (r : Fin 8) :
    (outsAt0 m c t.val t.isLt).2.2 (ix2 r 0)
      = k0_pay5 (iblk m c 0 t) (View.ld (outsAt0 m c (t.val - 1) (Nat.lt_of_le_of_lt (Nat.sub_le _ _) t.isLt)).2.2
          (Rect.unit (s := S8x128) ![0, 0] ![8, 1] inb_S8x128_S8x1_0_0)) (ix2 r 0) := by
  by_cases h1 : t.val % 16 = 15
  · rw [outsAt0_C m c t h0 h1]
    frame_out
    rw [read_unread_whole]
    exact col_stored _ _ r
  · rw [outsAt0_B m c t h0 h1]
    frame_out
    rw [read_unread_whole]
    exact col_stored _ _ r

/-- The last point stores the means of the first three classes, of the sums and counts it has just completed. -/
theorem result_last (c : Dev nD) (t : Fin cfg0.N) (h1 : t.val % 16 = 15) (r : Fin 3) (k : Fin 512) :
    (outsAt0 m c t.val t.isLt).1 (ix2 r k)
      = Ideal.div ((outsAt0 m c t.val t.isLt).2.1 (ix2 ⟨r.val, by omega⟩ k))
          (max ((outsAt0 m c t.val t.isLt).2.2 (ix2 ⟨r.val, by omega⟩ 0)) 1) := by
  have h0 : ¬t.val % 16 = 0 := by omega
  rw [sums_next m c t h0, counts_next m c t h0]
  rw [outsAt0_C m c t h0 h1]
  frame_out
  rw [read_unread_whole, read_unread_whole, View.readCov_cons_toLoadRect]
  rw [mean_at, View.readCov_fill _ _ _ _ _ (by decide), top_at]

end Cert.KernelIdeal.Points

end
-- ==== Proof.Means.lean ====
/- The kernel's result as a function of its two argument arrays. -/
module

public import proofs.«01_k».proof.Proof.Points

@[expose] public section

noncomputable section

namespace Cert.KernelIdeal.Means

open Cert.KernelIdeal Cert.KernelIdeal.Gen Idealize.ShloMosaic Idealize.ShloMosaic.TcCoe
open Cert.KernelIdeal.Block Cert.KernelIdeal.Points

variable (m : (ℓ : Loc nD τ sig) → Buf (Elt Ideal) ℓ)

/-- The rows' array as the kernel is given it. -/
abbrev rows (c : Dev nD) : S32768x512.Idx → EReal := m ((c : Thread nD τ).loc main_arg0)

/-- The labels' array as the kernel is given it. -/
abbrev labels (c : Dev nD) : S32768.Idx → BitVec 32 := m ((c : Thread nD τ).loc main_arg1)

/-- The block each window takes at a point: block `t` of the labels and of the rows. -/
theorem window_index : ∀ t : Fin cfg0.N, win0_0.index t 0 = 0 ∧ win0_0.index t 1 = t.val ∧ win0_1.index t 0 = t.val ∧ win0_1.index t 1 = 0 := by
  decide +kernel

/-- The position of lane `b` of block `t` lies in the array. -/
theorem lane_lt (t : Fin cfg0.N) (b : Fin 2048) : t.val * 2048 + b.val < 32768 := by
  have := lt_of_lt_of_eq t.isLt (show cfg0.N = 16 from N_0)
  omega

/-- The one-row array of labels the kernel's windows read is the labels in order. -/
theorem label_row (c : Dev nD) (n : Fin 32768) :
    (V m c main_call0_v0 : S1x32768.Idx → BitVec 32) (ix2 (0 : Fin 1) n) = labels m c (ix1 n) := by
  have h : V m c main_call0_v0 = shapeCast S1x32768 (labels m c) shapeCasts_S32768_S1x32768 := by
    unfold V
    simp only [hostOps0, StableHlo.TRef.reshape, cast_eq]
    after_results_simp
    rfl
  rw [h]
  pointwise

/-- Label `b` of block `t` is label `2048 t + b` of the array. -/
theorem label_block (c : Dev nD) (t : Fin cfg0.N) (b : Fin 2048) :
    (iblk m c 0 t : Vec Ideal S1x2048 .i32) (ix2 0 b) = labels m c (ix1 ⟨t.val * 2048 + b.val, lane_lt t b⟩) := by
  have hi := window_index t
  unfold iblk
  rw [View.read_apply]
  show (V m c main_call0_v0 : S1x32768.Idx → BitVec 32) _ = _
  rw [← label_row]
  refine congrArg (V m c main_call0_v0 : S1x32768.Idx → BitVec 32) (funext fun a => Fin.ext ?_)
  match a with
  | ⟨0, _⟩ => show win0_0.index t 0 * 1 + 1 * 0 = 0; rw [hi.1]
  | ⟨1, _⟩ => show win0_0.index t 1 * 2048 + 1 * b.val = t.val * 2048 + b.val; rw [hi.2.1]; omega

/-- Row `b` of block `t` is row `2048 t + b` of the array. -/
theorem row_block (c : Dev nD) (t : Fin cfg0.N) (b : Fin 2048) (k : Fin 512) :
    (iblk m c 1 t : Vec Ideal S2048x512 .f32) (ix2 b k) = rows m c (ix2 ⟨t.val * 2048 + b.val, lane_lt t b⟩ k) := by
  have hi := window_index t
  unfold iblk
  rw [View.read_apply]
  show V m c main_arg0 _ = _
  rw [V_main_arg0]
  refine congrArg (rows m c) (funext fun a => Fin.ext ?_)
  match a with
  | ⟨0, _⟩ => show win0_1.index t 0 * 2048 + 1 * b.val = t.val * 2048 + b.val; rw [hi.2.2.1]; omega
  | ⟨1, _⟩ => show win0_1.index t 1 * 512 + 1 * k.val = k.val; rw [hi.2.2.2]; omega

/-- After the last point the sums hold, for each class, the sum of the rows labelled with it. -/
theorem sums_total (c : Dev nD) (t : Fin cfg0.N) (ht : t.val + 1 = cfg0.N) (r : Fin 8) (k : Fin 512) :
    (outsAt0 m c t.val t.isLt).2.1 (ix2 r k)
      = ∑ n : Fin 32768, hot (labels m c (ix1 n)) r.val * rows m c (ix2 n k) := by
  rw [Pipeline.eq_sum_fin_of_reset_step_apply_last (fun n h => fun i : Fin 8 × Fin 512 => (outsAt0 m c n h).2.1 (ix2 i.1 i.2)) 16 (fun _ => (0 : EReal))
    (fun t i => ∑ b : Fin 2048, hot ((iblk m c 0 t : Vec Ideal S1x2048 .i32) (ix2 0 b)) i.1.val * (iblk m c 1 t : Vec Ideal S2048x512 .f32) (ix2 b i.2))
    (fun t h i => by rw [sums_first m c t h, sum_at, sum_zero_at])
    (fun t h i => by rw [sums_next m c t h, sum_at])
    (le_of_eq N_0) t ht (r, k), zero_add]
  refine Fin.sum_mul_add_congr fun s b hl => ?_
  rw [label_block, row_block]

/-- After the last point the counts' first column holds, for each class, the number of its labels. -/
theorem counts_total (c : Dev nD) (t : Fin cfg0.N) (ht : t.val + 1 = cfg0.N) (r : Fin 8) :
    (outsAt0 m c t.val t.isLt).2.2 (ix2 r 0) = ∑ n : Fin 32768, hot (labels m c (ix1 n)) r.val := by
  rw [Pipeline.eq_sum_fin_of_reset_step_apply_last (fun n h => fun i : Fin 8 => (outsAt0 m c n h).2.2 (ix2 i 0)) 16 (fun _ => (0 : EReal))
    (fun t i => ∑ b : Fin 2048, hot ((iblk m c 0 t : Vec Ideal S1x2048 .i32) (ix2 0 b)) i.val)
    (fun t h i => by rw [counts_first m c t h, count_at, col_at, count_zero_at])
    (fun t h i => by rw [counts_next m c t h, count_at, col_at])
    (le_of_eq N_0) t ht r, zero_add]
  refine Fin.sum_mul_add_congr fun s b hl => ?_
  rw [label_block]

/-- The kernel's result: for each of the three classes and each column, the sum of the rows labelled with the class over
    the greater of their number and one. -/
theorem result_at (c : Dev nD) (r : Fin 3) (k : Fin 512) :
    Value.G2 m c (ix2 r k)
      = Ideal.div (∑ n : Fin 32768, hot (labels m c (ix1 n)) r.val * rows m c (ix2 n k))
          (max (∑ n : Fin 32768, hot (labels m c (ix1 n)) r.val) 1) := by
  have hN : cfg0.N = 16 := N_0
  have h : Value.G2 m c = (outsAt0 m c 15 (by rw [hN]; decide)).1 := by
    rw [Value.G2_last]
    exact (congrArg Prod.fst (Value.outsAt0_sweep m c 15 (by rw [hN]; decide))).symm
  rw [h, result_last m c ⟨15, by rw [hN]; decide⟩ rfl, sums_total m c ⟨15, by rw [hN]; decide⟩ hN.symm,
    counts_total m c ⟨15, by rw [hN]; decide⟩ hN.symm]

end Cert.KernelIdeal.Means

end
-- ==== Proof.Lands.lean ====
/- Where the updates of the reference's two scatters land. -/
module

public import proofs.«01_k».proof.Proof.Gen.ReferenceIdeal
public import Idealize.ShloMosaic.Lib.Routing.OpsPair
public import Idealize.ShloMosaic.Lib.Pointwise

@[expose] public section

namespace Cert.ReferenceIdeal.Lands

open Cert.ReferenceIdeal Idealize.ShloMosaic

/-- Element `(n, q)` of the updates lands at class `r`, column `k` exactly when label `n`, read signed, is `r` and the
    columns agree. -/
theorem row_lands (idx : IVec S32768x1 32) (n : Fin 32768) (q : Fin 512) (r : Fin 3) (k : Fin 512) :
    scatter_S3x512_S32768x1_S32768x512_1_0_0_1.resultIdx? (ix2 n q) idx = some (ix2 r k)
      ↔ (idx (ix2 n 0)).toInt = (r.val : Int) ∧ q = k := by
  have hs0 : scatter_S3x512_S32768x1_S32768x512_1_0_0_1.start (ix2 n q) idx 0 = (idx (ix2 n 0)).toInt := by
    refine congrArg (fun j => (idx j).toInt) (funext fun a => Fin.ext ?_)
    match a with
    | ⟨0, _⟩ => rfl
    | ⟨1, _⟩ => rfl
  have hs1 : scatter_S3x512_S32768x1_S32768x512_1_0_0_1.start (ix2 n q) idx 1 = 0 := rfl
  have hw0 : scatter_S3x512_S32768x1_S32768x512_1_0_0_1.window (ix2 n q) 0 = 0 := rfl
  have hw1 : scatter_S3x512_S32768x1_S32768x512_1_0_0_1.window (ix2 n q) 1 = q.val := rfl
  rw [Routing.resultIdx?_eq_some, Fin.forall_fin_two, hs0, hs1, hw0, hw1]
  show (idx (ix2 n 0)).toInt + ((0 : ℕ) : Int) = (r.val : Int) ∧ (0 : Int) + (q.val : Int) = (k.val : Int) ↔ _
  rw [Fin.ext_iff]
  omega

/-- Update `n` of the count lands at class `r` exactly when its label, read signed, is `r`. -/
theorem one_lands (idx : IVec S32768x1 32) (n : Fin 32768) (r : Fin 3) :
    scatter_S3_S32768x1_S32768_n_0_0_1.resultIdx? (ix1 n) idx = some (ix1 r) ↔ (idx (ix2 n 0)).toInt = (r.val : Int) := by
  have hs0 : scatter_S3_S32768x1_S32768_n_0_0_1.start (ix1 n) idx 0 = (idx (ix2 n 0)).toInt := by
    refine congrArg (fun j => (idx j).toInt) (funext fun a => Fin.ext ?_)
    match a with
    | ⟨0, _⟩ => rfl
    | ⟨1, _⟩ => rfl
  have hw0 : scatter_S3_S32768x1_S32768_n_0_0_1.window (ix1 n) 0 = 0 := rfl
  rw [Routing.resultIdx?_eq_some]
  constructor
  · intro h
    have h0 := h 0
    rw [hs0, hw0] at h0
    have : (idx (ix2 n 0)).toInt + ((0 : ℕ) : Int) = (r.val : Int) := h0
    omega
  · intro h a
    match a with
    | ⟨0, _⟩ =>
      show scatter_S3_S32768x1_S32768_n_0_0_1.start (ix1 n) idx 0 + ((scatter_S3_S32768x1_S32768_n_0_0_1.window (ix1 n) 0 : ℕ) : Int) = (r.val : Int)
      rw [hs0, hw0]
      omega

end Cert.ReferenceIdeal.Lands
-- ==== Proof.Tally.lean ====
/- How many labels name a class: the reference's count, as a 32-bit word and as the number it stands for. -/
module

public import proofs.«01_k».proof.Proof.Block
public import proofs.«01_k».proof.Proof.Lands
public import Idealize.ShloMosaic.Lib.WordArith
public import Idealize.ShloMosaic.Lib.WordCmp

@[expose] public section

noncomputable section

namespace Cert.ReferenceIdeal.Tally

open Cert.ReferenceIdeal Idealize.ShloMosaic
open Cert.KernelIdeal.Block (hot)

/-- The number of entries of `l` equal to class `r`. -/
def tally (l : Fin 32768 → BitVec 32) (r : ℕ) : ℕ := ∑ n : Fin 32768, if (l n).toInt = (r : Int) then 1 else 0

/-- A label's indicator for a class below three, by the label's signed value. -/
theorem hot_eq (b : BitVec 32) (r : Fin 3) : hot b r.val = if b.toInt = (r.val : Int) then 1 else 0 := by
  have hr : (BitVec.ofNat 32 r.val).toInt = (r.val : Int) := StableHlo.Predicate.toInt_ofNat_small _ (by omega)
  unfold hot
  refine if_congr ⟨fun h => by rw [h, hr], fun h => BitVec.eq_of_toInt_eq (by rw [h, hr])⟩ rfl rfl

/-- A sum of reals is the same sum taken among the extended reals. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The indicators of a class sum to its tally. -/
theorem sum_hot (l : Fin 32768 → BitVec 32) (r : Fin 3) :
    ∑ n : Fin 32768, hot (l n) r.val = ((tally l r.val : ℝ) : EReal) := by
  have h : ∀ n, hot (l n) r.val = (((if (l n).toInt = (r.val : Int) then (1 : ℝ) else 0 : ℝ)) : EReal) := fun n => by
    rw [hot_eq]; split <;> simp
  rw [Finset.sum_congr rfl fun n _ => h n, ← coe_sum]
  unfold tally
  rw [Nat.cast_sum]
  exact congrArg Real.toEReal (Finset.sum_congr rfl fun n _ => by split <;> simp)

/-- No class is named more often than there are labels. -/
theorem tally_le (l : Fin 32768 → BitVec 32) (r : ℕ) : tally l r ≤ 32768 := by
  refine (Finset.sum_le_sum (g := fun _ => 1) fun n _ => ?_).trans (by simp)
  split <;> omega

/-- Adding one to a word for each list entry that passes a test adds the number of such entries. -/
theorem fold_ones {α : Type*} (p : α → Prop) [DecidablePred p] (l : List α) (a : BitVec 32) :
    l.foldl (fun b n => if p n then IntOp.addi b 1#32 else b) a
      = a + BitVec.ofNat 32 (l.map fun n => if p n then 1 else 0).sum := by
  induction l generalizing a with
  | nil => simp
  | cons x xs ih =>
    rw [List.foldl_cons, ih, List.map_cons, List.sum_cons]
    split
    · rw [BitVec.ofNat_add, ← BitVec.add_assoc]; rfl
    · rw [Nat.zero_add]

/-- A sum over an array's elements listed in row order is the sum over its indices. -/
theorem sum_listed (s : Shape) (f : s.Idx → ℕ) :
    ((List.finRange s.numel).map fun n => f (s.rowMajor.symm n)).sum = ∑ j, f j := by
  rw [← Fin.sum_univ_def]
  exact Equiv.sum_comp s.rowMajor.symm f

/-- The integer scatter of ones over a zero array holds each class's tally. -/
theorem scatter_count (x0 : IVec S3 32) (idx : IVec S32768x1 32) (ones : IVec S32768 32) (r : Fin 3)
    (h0 : x0 (ix1 r) = 0#32) (h1 : ∀ n : S32768.Idx, ones n = 1#32) :
    Host.scatter scatter_S3_S32768x1_S32768_n_0_0_1 IntOp.addi x0 idx ones (ix1 r)
      = BitVec.ofNat 32 (tally (fun n => idx (ix2 n 0)) r.val) := by
  rw [Routing.scatter_at, h0]
  simp only [h1]
  rw [fold_ones, BitVec.zero_add]
  refine congrArg (BitVec.ofNat 32) ?_
  refine (sum_listed S32768 fun j =>
    if scatter_S3_S32768x1_S32768_n_0_0_1.resultIdx? j idx = some (ix1 r) then 1 else 0).trans ?_
  rw [sum_idx1]
  exact Finset.sum_congr rfl fun n _ => if_congr (Lands.one_lands idx n r) rfl rfl

end Cert.ReferenceIdeal.Tally
-- ==== Proof.RowSums.lean ====
/- The reference's per-class row sums: the float scatter read at one class and one column. -/
module

public import proofs.«01_k».proof.Proof.Tally

@[expose] public section

noncomputable section

namespace Cert.ReferenceIdeal.RowSums

open Cert.ReferenceIdeal Idealize.ShloMosaic
open Cert.KernelIdeal.Block (hot)

/-- The float scatter of the rows over a zero array holds, at each class and column, the sum of the column's entries
    whose label is the class. -/
theorem scatter_rows (z : S3x512.Idx → EReal) (idx : IVec S32768x1 32) (x : S32768x512.Idx → EReal) (r : Fin 3)
    (k : Fin 512) (hz : z (ix2 r k) = 0) :
    Ideal.hostScatterAdd scatter_S3x512_S32768x1_S32768x512_1_0_0_1 z idx x (ix2 r k)
      = ∑ n : Fin 32768, hot (idx (ix2 n 0)) r.val * x (ix2 n k) := by
  show z (ix2 r k) + _ = _
  rw [hz, zero_add, Finset.sum_filter, ValueIdx.sum_idx2]
  refine Finset.sum_congr rfl fun n _ => ?_
  rw [Tally.hot_eq, Finset.sum_eq_single k]
  · refine (if_congr (Lands.row_lands idx n k r k) (rfl : _ = x (ix2 n k)) rfl).trans ?_
    by_cases h : (idx (ix2 n 0)).toInt = (r.val : Int) <;> simp [h]
  · intro q _ hq
    exact if_neg fun h => hq ((Lands.row_lands idx n q r k).1 h).2
  · exact fun h => absurd (Finset.mem_univ k) h

end Cert.ReferenceIdeal.RowSums
-- ==== Proof.Reference.lean ====
/- What the reference computes at one class and one column, for labels that are not negative. -/
module

public import proofs.«01_k».proof.Proof.RowSums
public import proofs.«01_k».proof.Proof.Gen.ReferenceIdeal.Run

@[expose] public section

noncomputable section

namespace Cert.ReferenceIdeal.Means

open Cert.ReferenceIdeal Cert.ReferenceIdeal.Gen Idealize.ShloMosaic
open Cert.KernelIdeal.Block (hot)

/-- Clipping a label that is not negative from below by zero leaves it. -/
theorem clip_self (b : BitVec 32) (h : 0 ≤ b.toInt) : IntOp.maxsi 0#32 b = b :=
  BitVec.eq_of_toInt_eq (by rw [WordArith.toInt_maxsi_zero, max_eq_right h])

/-- A label that is not negative is not below zero. -/
theorem not_below (b : BitVec 32) (h : 0 ≤ b.toInt) : IntOp.cmpi .slt b 0#32 = 0#1 := by
  rw [WordCmp.cmpi_slt_eq, decide_eq_false (by simpa using h)]
  rfl

/-- A small count, with zero replaced by one, is the larger of the count and one. -/
theorem count_or_one (t : ℕ) (ht : t ≤ 32768) :
    ((Scalar.select (IntOp.cmpi .sgt (BitVec.ofNat 32 t) 0#32) (BitVec.ofNat 32 t) 1#32).toInt : ℝ) = max (t : ℝ) 1 := by
  have hi : (BitVec.ofNat 32 t).toInt = (t : Int) := StableHlo.Predicate.toInt_ofNat_small _ (by omega)
  rw [WordCmp.cmpi_sgt_eq, hi]
  rcases Nat.eq_zero_or_pos t with h | h
  · subst h
    simp [Scalar.select]
  · have h1 : (1 : ℝ) ≤ t := by exact_mod_cast h
    rw [decide_eq_true (by simpa using h), max_eq_left h1]
    show (((BitVec.ofNat 32 t).toInt : ℤ) : ℝ) = t
    rw [hi, Int.cast_natCast]

/-- The labels as the count's scatter takes them: clipped from below by zero, then wrapped. -/
def wrapped (l : IVec S32768 32) : IVec S32768 32 :=
  select (cmpi .slt (maxsi (broadcastInDim S32768 ![] bcast_S_S32768 (id (constantI S_ 32 0#32))) l)
      (broadcastInDim S32768 ![] bcast_S_S32768 (constantI S_ 32 0#32)))
    (addi (maxsi (broadcastInDim S32768 ![] bcast_S_S32768 (id (constantI S_ 32 0#32))) l)
      (broadcastInDim S32768 ![] bcast_S_S32768 (constantI S_ 32 3#32)))
    (maxsi (broadcastInDim S32768 ![] bcast_S_S32768 (id (constantI S_ 32 0#32))) l)

/-- The count of each class. -/
def counts (l : IVec S32768 32) : IVec S3 32 :=
  Host.scatter scatter_S3_S32768x1_S32768_n_0_0_1 IntOp.addi (broadcastInDim S3 ![] bcast_S_S3 (constantI S_ 32 0#32))
    (broadcastInDim S32768x1 ![0] bcast_S32768_S32768x1_0 (wrapped l))
    (broadcastInDim S32768 ![] bcast_S_S32768 (constantI S_ 32 1#32))

/-- The sum of each class's rows. -/
def sums (x : FVec Ideal S32768x512 .f32) (l : IVec S32768 32) : FVec Ideal S3x512 .f32 :=
  Host.scatterAdd scatter_S3x512_S32768x1_S32768x512_1_0_0_1
    (broadcastInDim S3x512 ![] bcast_S_S3x512 (constant S_ .f32 0x00000000#32))
    (broadcastInDim S32768x1 ![0] bcast_S32768_S32768x1_0 l) x

/-- What each class's sum is divided by. -/
def divisors (l : IVec S32768 32) : FVec Ideal S3 .f32 :=
  sitofp .f32 (select (cmpi .sgt (counts l) (broadcastInDim S3 ![] bcast_S_S3 (constantI S_ 32 0#32))) (counts l)
    (broadcastInDim S3 ![] bcast_S_S3 (id (constantI S_ 32 1#32))))

/-- The reference's result. -/
def result (x : FVec Ideal S32768x512 .f32) (l : IVec S32768 32) : FVec Ideal S3x512 .f32 :=
  Host.divf (sums x l)
    (broadcastInDim S3x512 ![0, 1] bcast_S3x1_S3x512_0_1 (broadcastInDim S3x1 ![0] bcast_S3_S3x1_0 (divisors l)))

/-- Labels that are not negative are neither clipped nor wrapped. -/
theorem wrapped_at (l : IVec S32768 32) (n : Fin 32768) (h : 0 ≤ (l (ix1 n)).toInt) : wrapped l (ix1 n) = l (ix1 n) := by
  have hm : maxsi (broadcastInDim S32768 ![] bcast_S_S32768 (id (constantI S_ 32 0#32))) l (ix1 n) = l (ix1 n) :=
    clip_self _ h
  show Scalar.select (IntOp.cmpi .slt (maxsi _ l (ix1 n)) 0#32) _ (maxsi _ l (ix1 n)) = _
  rw [hm, not_below _ h]
  rfl

/-- The count of a class is its tally. -/
theorem counts_at (l : IVec S32768 32) (r : Fin 3) (h : ∀ n : Fin 32768, 0 ≤ (l (ix1 n)).toInt) :
    counts l (ix1 r) = BitVec.ofNat 32 (Tally.tally (fun n => l (ix1 n)) r.val) := by
  unfold counts
  refine (Tally.scatter_count _ _ _ r rfl (fun _ => rfl)).trans ?_
  refine congrArg (fun f => BitVec.ofNat 32 (Tally.tally f r.val)) (funext fun n => ?_)
  refine Eq.trans ?_ (wrapped_at l n (h n))
  pointwise

/-- The sum of a class's rows, column by column. -/
theorem sums_at (x : FVec Ideal S32768x512 .f32) (l : IVec S32768 32) (r : Fin 3) (k : Fin 512) :
    sums x l (ix2 r k) = ∑ n : Fin 32768, hot (l (ix1 n)) r.val * x (ix2 n k) := by
  unfold sums
  have hz : (broadcastInDim S3x512 ![] bcast_S_S3x512 (constant S_ .f32 0x00000000#32) : FVec Ideal S3x512 .f32) (ix2 r k)
      = (0 : EReal) := by
    pointwise
  refine (RowSums.scatter_rows _ _ x r k hz).trans (Finset.sum_congr rfl fun n _ => ?_)
  refine congrArg (fun b => hot b r.val * x (ix2 n k)) ?_
  pointwise

/-- A class's divisor is its number of labels, or one where it has none. -/
theorem divisors_at (l : IVec S32768 32) (r : Fin 3) (h : ∀ n : Fin 32768, 0 ≤ (l (ix1 n)).toInt) :
    divisors l (ix1 r) = max (∑ n : Fin 32768, hot (l (ix1 n)) r.val) (1 : EReal) := by
  have hs : divisors l (ix1 r)
      = (((Scalar.select (IntOp.cmpi .sgt (counts l (ix1 r)) 0#32) (counts l (ix1 r)) 1#32).toInt : ℝ) : EReal) := rfl
  rw [hs, counts_at l r h, count_or_one _ (Tally.tally_le _ _), Tally.sum_hot (fun n => l (ix1 n)) r]
  exact EReal.coe_strictMono.monotone.map_max

/-- The reference's result at class `r` and column `k`: the sum of the column over the rows labelled `r`, divided by the
    number of those rows, or by one where there are none. -/
theorem result_at (x : FVec Ideal S32768x512 .f32) (l : IVec S32768 32) (r : Fin 3) (k : Fin 512)
    (h : ∀ n : Fin 32768, 0 ≤ (l (ix1 n)).toInt) :
    result x l (ix2 r k)
      = Ideal.div (∑ n : Fin 32768, hot (l (ix1 n)) r.val * x (ix2 n k))
          (max (∑ n : Fin 32768, hot (l (ix1 n)) r.val) 1) := by
  rw [← sums_at x l r k, ← divisors_at l r h]
  unfold result
  pointwise

end Cert.ReferenceIdeal.Means
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_nonnegative
public import proofs.«01_k».proof.Proof.Gen.ReferenceIdeal.Run
public import proofs.«01_k».proof.Proof.Labels
public import proofs.«01_k».proof.Proof.Means
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates with its arguments unchanged and every counter zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from the memories the precondition admits. -/
theorem quiescent_ReferenceIdeal_nonnegative : quiescent_ReferenceIdeal_pre_nonnegative := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- For labels that are not negative, the reference's result on the kernel's arguments is the array the kernel leaves. -/
theorem result_eq (m : (ℓ : Loc Cert.KernelIdeal.nD Cert.KernelIdeal.τ Cert.KernelIdeal.sig) → Buf (Elt Ideal) ℓ)
    (c : Dev Cert.KernelIdeal.nD)
    (h : ∀ n : Fin 32768, 0 ≤ (Cert.KernelIdeal.Means.labels m c (ix1 n)).toInt) :
    Cert.ReferenceIdeal.Means.result (Cert.KernelIdeal.Means.rows m c) (Cert.KernelIdeal.Means.labels m c)
      = Cert.KernelIdeal.Value.G2 m c := by
  funext i
  rw [← ix2_eta i]
  exact (Cert.ReferenceIdeal.Means.result_at _ _ _ _ h).trans (Cert.KernelIdeal.Means.result_at m c _ _).symm

/-- From memories that agree on the arguments, with no label negative, the kernel and the reference leave the same
    result. -/
theorem algebraic : algebraic_KernelIdeal_ReferenceIdeal_pre_nonnegative := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1]
  simp only [hagree c]
  exact result_eq m c (Cert.Pre_nonnegative.Labels.label_nonneg _ _ (hpre c))

/-- All the claims. -/
theorem claim : Cert.Claim :=
  ⟨Cert.Kernel.Gen.facts, Cert.KernelIdeal.Gen.facts, Cert.ReferenceIdeal.Gen.facts, Cert.Pre_nonnegative.Gen.facts,
    fun m ρ _ => Cert.Kernel.Gen.frame m ρ, fun m ρ _ => Cert.KernelIdeal.Gen.frame m ρ,
    fun m ρ _ => Cert.KernelIdeal.Gen.frame m ρ, quiescent_ReferenceIdeal, quiescent_ReferenceIdeal_nonnegative,
    (trivial : preserves_Kernel_KernelIdeal), algebraic⟩

end Cert.Proof

end
